-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S64x2048 : Shape := ⟨2, ![64, 2048]⟩
abbrev S8192x64 : Shape := ⟨2, ![8192, 64]⟩
abbrev S1024x2048 : Shape := ⟨2, ![1024, 2048]⟩
abbrev S_ : Shape := ⟨0, ![]⟩
abbrev S1024x64 : Shape := ⟨2, ![1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S8192x64, .f32⟩
  | .local _ .vmem, ⟨0, _⟩ => ⟨S64x2048, .f32⟩
  | .local _ .vmem, ⟨1, _⟩ => ⟨S8192x64, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S64x2048 : Shape := ⟨2, ![64, 2048]⟩
abbrev S2048x64 : Shape := ⟨2, ![2048, 64]⟩
abbrev S8192x64 : Shape := ⟨2, ![8192, 64]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S64x2048, .f32⟩
  | .hbm, ⟨2, _⟩ => ⟨S2048x64, .f32⟩
  | .hbm, ⟨3, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Block.lean ====
/- The body of the kernel, read as a value: every chunk's store writes the matching rows of one product, and the eight
   stores together fill the output block. -/
module

public import proofs.«01_k».proof.Proof.Gen.KernelIdeal.Value
public import Idealize.ShloMosaic.Lib.CellWrites
public import Idealize.ShloMosaic.Lib.Pointwise
public import Idealize.ShloMosaic.Lib.ValueIdx
public import Idealize.ShloMosaic.PureOps.Ideal

@[expose] public section

set_option maxRecDepth 16384

noncomputable section

namespace Cert.KernelIdeal.Gate

open Cert.KernelIdeal Cert.KernelIdeal.Gen Idealize.ShloMosaic Idealize.ShloMosaic.TcCoe Idealize.SL.Sem

/-- The product of the rows of `x` with the rows of `w`, entry by entry: what the result array is to hold. -/
def G (x : Vec Ideal S8192x2048 .f32) (w : Vec Ideal S64x2048 .f32) : Vec Ideal S8192x64 .f32 :=
  fun i => ∑ k : Fin 2048, x (ix2 (i 0) k) * w (ix2 (i 1) k)

/-- A load of a whole scratch slot right after a transfer filled the slot reads what that transfer brought,
    whatever the slot held before. -/
theorem slot_read {F : FTy → Type} [FloatOps F] {S : Shape} {e : EltTy} {off : Fin S.rank → ℕ} (hz : off = fun _ => 0)
    (M : View sig .tc .vmem S e) (v : Vec F S e) (L : List (View.Piece (Elt F) S e))
    (h : ∀ a, off a + S.size a ≤ S.size a) :
    M.readCov (⟨Rect.whole S, v⟩ :: L) (Rect.unit off S.size h).toLoadRect = v := by
  subst hz
  exact View.readCov_cons_toLoadRect M (Rect.whole S) v L

/-- The offsets of a load or store of a whole buffer of two axes are zero. -/
theorem hz2 : (![0, 0] : Fin 2 → ℕ) = fun _ => 0 := funext fun a => by fin_cases a <;> rfl

/-- Rows `o` to `o + 1023` of `x`, times the rows of `w`: the product of a chunk is that block of the whole product. -/
theorem chunk_apply (o : ℕ) (h : ∀ a, (![o, 0] : Fin 2 → ℕ) a + (![1024, 64] : Fin 2 → ℕ) a ≤ S8192x64.size a)
    (x : Vec Ideal S8192x2048 .f32) (w : Vec Ideal S64x2048 .f32) (v : Vec Ideal S1024x2048 .f32)
    (hv : ∀ (r : Fin 1024) (k : Fin 2048) (hr : o + r.val < 8192), v (ix2 r k) = x (ix2 ⟨o + r.val, hr⟩ k))
    (j : S1024x64.Idx) :
    k0_pay1 v w j = G x w ((Rect.unit (s := S8192x64) ![o, 0] ![1024, 64] h).emb j) := by
  have h0 : o + 1024 ≤ 8192 := h 0
  idx_vars j
  unfold k0_pay1 G
  pointwise
  refine Finset.sum_congr rfl fun k _ => ?_
  have hr : o + j0.val < 8192 := by have := j0.isLt; omega
  rw [hv j0 k hr]
  have e0 : (Rect.unit (s := S8192x64) ![o, 0] ![1024, 64] h).emb (ix2 j0 j1) 0 = (⟨o + j0.val, hr⟩ : Fin 8192) :=
    Fin.ext (by show o + 1 * j0.val = o + j0.val; omega)
  have e1 : (Rect.unit (s := S8192x64) ![o, 0] ![1024, 64] h).emb (ix2 j0 j1) 1 = j1 :=
    Fin.ext (by show 0 + 1 * j1.val = j1.val; omega)
  rw [e0, e1]

/-- What one store of the body writes: the slot filled from rows `o` to `o + 1023` of `x`, multiplied with `w` and
    stored at row `o`, is the whole product on those rows. -/
theorem piece_eq (o : ℕ) (h : ∀ a, (![o, 0] : Fin 2 → ℕ) a + (![1024, 64] : Fin 2 → ℕ) a ≤ S8192x64.size a)
    (hx : ∀ a, (![o, 0] : Fin 2 → ℕ) a + S1024x2048.size a ≤ S8192x2048.size a)
    (hb : ∀ a, (![0, 0] : Fin 2 → ℕ) a + S1024x2048.size a ≤ S1024x2048.size a)
    (x : Vec Ideal S8192x2048 .f32) (w u : Vec Ideal S64x2048 .f32) (hu : u = w)
    (M : View sig .tc .vmem S1024x2048 .f32) (L : List (View.Piece (Elt Ideal) S1024x2048 .f32))
    (j : S1024x64.Idx) :
    k0_pay1 (M.readCov (⟨Rect.whole S1024x2048, ReadAs.same.apply
        (View.read (Elt Ideal) ((Memref.whole main_arg0).slice (Rect.unit ![o, 0] S1024x2048.size hx) (fun _ => rfl)).view x)⟩ :: L)
        (Rect.unit ![0, 0] S1024x2048.size hb).toLoadRect) u j
      = G x w ((Rect.unit (s := S8192x64) ![o, 0] ![1024, 64] h).emb j) := by
  subst hu
  rw [slot_read hz2]
  refine chunk_apply o h x u _ (fun r k hr => ?_) j
  show x _ = x _
  congr 1
  funext a
  apply Fin.ext
  match a with
  | ⟨0, _⟩ => show o + 1 * r.val = o + r.val; omega
  | ⟨1, _⟩ => show 0 + 1 * k.val = k.val; omega

/-- What the kernel's body leaves in its output block is the whole product: its eight stores cover the block, and each
    is that product on the rows it writes. -/
theorem out_eq (c : Dev nD) (t : Fin cfg0.N) (w : Vec Ideal S64x2048 .f32) (x : Vec Ideal S8192x2048 .f32) :
    out0_A_1 (F := Ideal) c (ms0_0 t) (hs0_0 t) (ms0_1 t) (hs0_1 t) scM0_0 (Memref.isWhole_whole _) scM0_1 (Memref.isWhole_whole _)
      scM0_2 (Memref.isWhole_whole _) scM0_3 (Memref.isWhole_whole _) w x = G x w := by
  unfold out0_A_1
  rw [View.read_writes_junk_eq_canon]
  funext y
  refine View.canon_apply_of_pieces (G x w) _ ?_ y (cover0_A_1 c (ms0_0 t) (hs0_0 t) (ms0_1 t) (hs0_1 t) scM0_0 (Memref.isWhole_whole _) scM0_1 (Memref.isWhole_whole _)
      scM0_2 (Memref.isWhole_whole _) scM0_3 (Memref.isWhole_whole _) w x y)
  have hw : ∀ h, (ms0_0 t).view.readAt (Elt Ideal) (Rect.unit (s := S64x2048) ![0, 0] S64x2048.size h).toLoadRect ((hs0_0 t).unread w) = w := by
    intro h
    rw [View.readAt_eq_ld, (hs0_0 t).read_unread]
    exact View.ld_unit_zero (S := S64x2048) hz2 _ _
  unfold kernelRun0_A
  dsimp only
  sl_unfold_words
  refine List.forall_mem_cons.2 ⟨piece_eq 7168 inb_S8192x64_S1024x64_7168_0 inb_S8192x2048_S1024x2048_7168_0 _ x w _ (hw _) _ _, ?_⟩
  refine List.forall_mem_cons.2 ⟨piece_eq 6144 inb_S8192x64_S1024x64_6144_0 inb_S8192x2048_S1024x2048_6144_0 _ x w _ (hw _) _ _, ?_⟩
  refine List.forall_mem_cons.2 ⟨piece_eq 5120 inb_S8192x64_S1024x64_5120_0 inb_S8192x2048_S1024x2048_5120_0 _ x w _ (hw _) _ _, ?_⟩
  refine List.forall_mem_cons.2 ⟨piece_eq 4096 inb_S8192x64_S1024x64_4096_0 inb_S8192x2048_S1024x2048_4096_0 _ x w _ (hw _) _ _, ?_⟩
  refine List.forall_mem_cons.2 ⟨piece_eq 3072 inb_S8192x64_S1024x64_3072_0 inb_S8192x2048_S1024x2048_3072_0 _ x w _ (hw _) _ _, ?_⟩
  refine List.forall_mem_cons.2 ⟨piece_eq 2048 inb_S8192x64_S1024x64_2048_0 inb_S8192x2048_S1024x2048_2048_0 _ x w _ (hw _) _ _, ?_⟩
  refine List.forall_mem_cons.2 ⟨piece_eq 1024 inb_S8192x64_S1024x64_1024_0 inb_S8192x2048_S1024x2048_1024_0 _ x w _ (hw _) _ _, ?_⟩
  refine List.forall_mem_cons.2 ⟨piece_eq 0 inb_S8192x64_S1024x64_0_0 inb_S8192x2048_S1024x2048_0_0 _ x w _ (hw _) _ _, ?_⟩
  exact fun p hp => absurd hp List.not_mem_nil

end Cert.KernelIdeal.Gate

end
-- ==== Proof.Result.lean ====
/- From the output block to the result array, and the reference's result as the same sum of products. -/
module

public import proofs.«01_k».proof.Proof.Block
public import proofs.«01_k».proof.Proof.Gen.ReferenceIdeal.Run
public import Idealize.ShloMosaic.Lib.Quiescent

@[expose] public section

noncomputable section

namespace Cert.KernelIdeal.Gate

open Cert.KernelIdeal Cert.KernelIdeal.Gen Idealize.ShloMosaic Idealize.ShloMosaic.TcCoe Idealize.SL.Sem

variable (m : (ℓ : Loc nD τ sig) → Buf (Elt Ideal) ℓ)

/-- The product of the two arguments as launched, as contents of the result array. -/
abbrev result (c : Dev nD) : Buf (Elt Ideal) ((c : Thread nD τ).loc main_v0) :=
  G (m ((c : Thread nD τ).loc main_arg0)) (m ((c : Thread nD τ).loc main_arg1))

/-- The weights' window holds the whole weight array: its one block starts at zero and has the array's shape. -/
theorem weights_whole (c : Dev nD) : iblk m c 0 t0_0 = m ((c : Thread nD τ).loc main_arg1) := by
  have hz : (fun a => win0_0.index t0_0 a * main_arg1.ty.shape.size a) = fun _ => 0 := funext fun a => by fin_cases a <;> decide
  exact Memref.read_access_unit_zero (Elt Ideal) main_arg1 hz (fun a => by rw [congrFun hz a]; simp) (m ((c : Thread nD τ).loc main_arg1))

/-- The one write-back puts the product on the block it writes. -/
theorem flushed_result (c : Dev nD) (t : Fin cfg0.N) (hf : (cfg0.win 1).flush t = true) :
    (dats m 0 c).flushed 1 t = ((cfg0.win 1).blk t).view.read (Elt Ideal) (result m c) := by
  obtain rfl : t = t0_0 := fin_N0 t
  rw [Cert.KernelIdeal.Value.flushed1_A, out_eq, weights_whole]
  have hz : (fun a => win0_1.index t0_0 a * main_v0.ty.shape.size a) = fun _ => 0 := funext fun a => by fin_cases a <;> decide
  exact (Memref.read_access_unit_zero (Elt Ideal) main_v0 hz (fun a => by rw [congrFun hz a]; simp) (result m c)).symm

/-- So the result array ends holding the product: the one block written back is the array. -/
theorem final_result (c : Dev nD) : (dats m 0 c).arrAt 1 cfg0.N = result m c :=
  (dats m 0 c).arrAt_eq_of_cover 1 (result m c) (flushed_result m c) fun i =>
    ⟨t0_0, flush0_1 t0_0, by
      show i ∈ ((View.whole main_v0).slice (win0_1.rect t0_0)).set
      rw [View.set_slice_whole, Rect.mem_set_unit]
      have starts : ∀ a, win0_1.index t0_0 a * win0_1.size a = 0 := by decide +kernel
      have sizes : ∀ a, win0_1.xsize (grid0.coords t0_0) a = S8192x64.size a := by decide +kernel
      intro a
      show win0_1.index t0_0 a * win0_1.size a ≤ (i a).val
        ∧ (i a).val < win0_1.index t0_0 a * win0_1.size a + win0_1.xsize (grid0.coords t0_0) a
      rw [starts, sizes, Nat.zero_add]
      exact ⟨Nat.zero_le _, (i a).isLt⟩⟩

/-- The reference multiplies `x` with the transposed weights: entry by entry the same sum of products. -/
theorem reference_eq (x : FVec Ideal S8192x2048 .f32) (w : FVec Ideal S64x2048 .f32) :
    (Host.dotGeneral (F := Ideal) (φ₁ := .f32) (φ₂ := .f32) Cert.ReferenceIdeal.dot_S8192x2048_S2048x64_S8192x64_1_0_0_1_n_n none x
      (transpose Cert.ReferenceIdeal.S2048x64 [1, 0] w Cert.ReferenceIdeal.Gen.transposes_S64x2048_S2048x64_1_0) : FVec Ideal S8192x64 .f32) = G x w := by
  funext j
  idx_vars j
  unfold G
  pointwise

end Cert.KernelIdeal.Gate

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference leaves its arguments as they were; it declares no semaphore, so every counter ends at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference both end holding the product of the rows of `x` with the rows of the weights. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Gate.result m c, ?_, ?_⟩
  · exact (θ_run Cert.KernelIdeal.defs _ _).mono
      (fun _ h c => ⟨(h c).1.trans (Cert.KernelIdeal.Gate.final_result m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.KernelIdeal.Gate.reference_eq _ _

/-- The five claims. The kernel's two frames are those its runs give; the idealization rewrote nothing. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
